-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_below_infinity [hPre_scales_below_infinity : Cert.Pre_scales_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_scales_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_below_infinity [hPre_scales_below_infinity : Cert.Pre_scales_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_below_infinity [hKernelIdeal : Cert.KernelIdeal.Facts] [hPre_scales_below_infinity : Cert.Pre_scales_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_below_infinity [hReferenceIdeal : Cert.ReferenceIdeal.Facts] [hPre_scales_below_infinity : Cert.Pre_scales_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scales_below_infinity [hKernelIdeal : Cert.KernelIdeal.Facts] [hReferenceIdeal : Cert.ReferenceIdeal.Facts] [hPre_scales_below_infinity : Cert.Pre_scales_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_below_infinity : Cert.Pre_scales_below_infinity.Facts),
    quiescent_Kernel (hKernel := hKernel)
    ∧ quiescent_KernelIdeal (hKernelIdeal := hKernelIdeal)
    ∧ quiescent_KernelIdeal_pre_scales_below_infinity (hKernelIdeal := hKernelIdeal) (hPre_scales_below_infinity := hPre_scales_below_infinity)
    ∧ quiescent_ReferenceIdeal (hReferenceIdeal := hReferenceIdeal)
    ∧ quiescent_ReferenceIdeal_pre_scales_below_infinity (hReferenceIdeal := hReferenceIdeal) (hPre_scales_below_infinity := hPre_scales_below_infinity)
    ∧ preserves_Kernel_KernelIdeal
    ∧ algebraic_KernelIdeal_ReferenceIdeal_pre_scales_below_infinity (hKernelIdeal := hKernelIdeal) (hReferenceIdeal := hReferenceIdeal) (hPre_scales_below_infinity := hPre_scales_below_infinity)
-- ==== Pre_scales_below_infinity.lean ====
abbrev S1x1x65536 : Shape := ⟨3, ![1, 1, 65536]⟩
abbrev S1x1x128x64 : Shape := ⟨4, ![1, 1, 128, 64]⟩
abbrev S1x131072x512 : Shape := ⟨3, ![1, 131072, 512]⟩
abbrev S1x131072 : Shape := ⟨2, ![1, 131072]⟩
abbrev S1x131072x64 : Shape := ⟨3, ![1, 131072, 64]⟩
abbrev S_ : Shape := ⟨0, ![]⟩

class Facts : Prop where
  bcast_S_S1x131072 : S_.BroadcastsInDim S1x131072 (![] : Fin 0 → Fin S1x131072.rank)
  reducesTo_S1x131072_S_d0_1 : S1x131072.ReducesTo [0, 1] S_
  h_S_ : 0 < S_.numel

variable [Facts]

def fn {F : FTy → Type} [FloatOps F] (main_arg0 : FVec F S1x1x65536 .bf16) (main_arg1 : FVec F S1x1x128x64 .bf16) (main_arg2 : FVec F S1x131072x512 .fp8e4m3) (main_arg3 : FVec F S1x131072 .f32) (main_arg4 : FVec F S1x131072x64 .bf16) : IVec S_ 1 :=
  let main_cst : FVec F S_ .f32 := constant S_ .f32 0x7F800000#32
  let main_v0 : FVec F S1x131072 .f32 := broadcastInDim S1x131072 ![] bcast_S_S1x131072 main_cst
  let main_v1 : IVec S1x131072 1 := cmpf .olt main_arg3 main_v0
  let main_c : IVec S_ 1 := constantI S_ 1 1#1
  let main_v2 : IVec S_ 1 := (fun x v => Host.reduce IntOp.andi x v reducesTo_S1x131072_S_d0_1 h_S_) main_v1 main_c
  main_v2
-- ==== Kernel.lean ====
abbrev S1x1x65536 : Shape := ⟨3, ![1, 1, 65536]⟩
abbrev S1x1x128x64 : Shape := ⟨4, ![1, 1, 128, 64]⟩
abbrev S1x131072x512 : Shape := ⟨3, ![1, 131072, 512]⟩
abbrev S1x131072 : Shape := ⟨2, ![1, 131072]⟩
abbrev S1x131072x64 : Shape := ⟨3, ![1, 131072, 64]⟩
abbrev S128x512 : Shape := ⟨2, ![128, 512]⟩
abbrev S128x64 : Shape := ⟨2, ![128, 64]⟩
abbrev S131072x512 : Shape := ⟨2, ![131072, 512]⟩
abbrev S64x1x2048 : Shape := ⟨3, ![64, 1, 2048]⟩
abbrev S131072x64 : Shape := ⟨2, ![131072, 64]⟩
abbrev S64x131072 : Shape := ⟨2, ![64, 131072]⟩
abbrev S2048x512 : Shape := ⟨2, ![2048, 512]⟩
abbrev S1x1x2048 : Shape := ⟨3, ![1, 1, 2048]⟩
abbrev S64x2048 : Shape := ⟨2, ![64, 2048]⟩
abbrev S128x1 : Shape := ⟨2, ![128, 1]⟩
abbrev S1x2048 : Shape := ⟨2, ![1, 2048]⟩
abbrev S128x2048 : Shape := ⟨2, ![128, 2048]⟩
abbrev S128 : Shape := ⟨1, ![128]⟩
abbrev S384x2048 : Shape := ⟨2, ![384, 2048]⟩
abbrev S384x512 : Shape := ⟨2, ![384, 512]⟩

abbrev nBuf : Space → Nat
  | .hbm => 12
  | .vmem => 12
  | .smem => 0
  | _ => 0

abbrev bufTy : (tb : Table) → Fin (tcTables nBuf tb) → BufTy
  | .hbm, ⟨0, _⟩ => ⟨S1x1x65536, .bf16⟩
  | .hbm, ⟨1, _⟩ => ⟨S1x1x128x64, .bf16⟩
  | .hbm, ⟨2, _⟩ => ⟨S1x131072x512, .fp8e4m3⟩
  | .hbm, ⟨3, _⟩ => ⟨S1x131072, .f32⟩
  | .hbm, ⟨4, _⟩ => ⟨S1x131072x64, .bf16⟩
  | .hbm, ⟨5, _⟩ => ⟨S128x512, .bf16⟩
  | .hbm, ⟨6, _⟩ => ⟨S128x64, .bf16⟩
  | .hbm, ⟨7, _⟩ => ⟨S131072x512, .fp8e4m3⟩
  | .hbm, ⟨8, _⟩ => ⟨S64x1x2048, .f32⟩
  | .hbm, ⟨9, _⟩ => ⟨S131072x64, .bf16⟩
  | .hbm, ⟨10, _⟩ => ⟨S64x131072, .bf16⟩
  | .hbm, ⟨11, _⟩ => ⟨S128x512, .bf16⟩
  | .local _ .vmem, ⟨0, _⟩ => ⟨S128x512, .bf16⟩
  | .local _ .vmem, ⟨1, _⟩ => ⟨S128x64, .bf16⟩
  | .local _ .vmem, ⟨2, _⟩ => ⟨S2048x512, .fp8e4m3⟩
  | .local _ .vmem, ⟨3, _⟩ => ⟨S2048x512, .fp8e4m3⟩
  | .local _ .vmem, ⟨4, _⟩ => ⟨S1x1x2048, .f32⟩
  | .local _ .vmem, ⟨5, _⟩ => ⟨S1x1x2048, .f32⟩
  | .local _ .vmem, ⟨6, _⟩ => ⟨S64x2048, .bf16⟩
  | .local _ .vmem, ⟨7, _⟩ => ⟨S64x2048, .bf16⟩
  | .local _ .vmem, ⟨8, _⟩ => ⟨S128x512, .bf16⟩
  | .local _ .vmem, ⟨9, _⟩ => ⟨S128x1, .f32⟩
  | .local _ .vmem, ⟨10, _⟩ => ⟨S128x1, .f32⟩
  | .local _ .vmem, ⟨11, _⟩ => ⟨S128x512, .f32⟩
  | _, _ => ⟨S1x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v63 : BitVec 1 := Scalar.cmpi .eq arg0 c63_i32
  let v64 : BitVec 32 := Scalar.extui v63
  let c0_i32_28 : BitVec 32 := 0#32
  let v65 : BitVec 1 := Scalar.cmpi .ne v64 c0_i32_28
  v65

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x1x65536 : Shape := ⟨3, ![1, 1, 65536]⟩
abbrev S1x1x128x64 : Shape := ⟨4, ![1, 1, 128, 64]⟩
abbrev S1x131072x512 : Shape := ⟨3, ![1, 131072, 512]⟩
abbrev S1x131072 : Shape := ⟨2, ![1, 131072]⟩
abbrev S1x131072x64 : Shape := ⟨3, ![1, 131072, 64]⟩
abbrev S128x512 : Shape := ⟨2, ![128, 512]⟩
abbrev S128x64 : Shape := ⟨2, ![128, 64]⟩
abbrev S131072x512 : Shape := ⟨2, ![131072, 512]⟩
abbrev S131072x64 : Shape := ⟨2, ![131072, 64]⟩
abbrev S128x131072 : Shape := ⟨2, ![128, 131072]⟩
abbrev S128 : Shape := ⟨1, ![128]⟩
abbrev S128x1 : Shape := ⟨2, ![128, 1]⟩

abbrev nBuf : Space → Nat
  | .hbm => 10
  | .vmem => 6
  | .smem => 0
  | _ => 0

abbrev bufTy : (tb : Table) → Fin (tcTables nBuf tb) → BufTy
  | .hbm, ⟨0, _⟩ => ⟨S1x1x65536, .bf16⟩
  | .hbm, ⟨1, _⟩ => ⟨S1x1x128x64, .bf16⟩
  | .hbm, ⟨2, _⟩ => ⟨S1x131072x512, .fp8e4m3⟩
  | .hbm, ⟨3, _⟩ => ⟨S1x131072, .f32⟩
  | .hbm, ⟨4, _⟩ => ⟨S1x131072x64, .bf16⟩
  | .hbm, ⟨5, _⟩ => ⟨S128x512, .bf16⟩
  | .hbm, ⟨6, _⟩ => ⟨S128x64, .bf16⟩
  | .hbm, ⟨7, _⟩ => ⟨S131072x512, .fp8e4m3⟩
  | .hbm, ⟨8, _⟩ => ⟨S131072x64, .bf16⟩
  | .hbm, ⟨9, _⟩ => ⟨S128x512, .bf16⟩
  | .local _ .vmem, ⟨0, _⟩ => ⟨S128x512, .bf16⟩
  | .local _ .vmem, ⟨1, _⟩ => ⟨S128x64, .bf16⟩
  | .local _ .vmem, ⟨2, _⟩ => ⟨S131072x512, .fp8e4m3⟩
  | .local _ .vmem, ⟨3, _⟩ => ⟨S1x131072, .f32⟩
  | .local _ .vmem, ⟨4, _⟩ => ⟨S131072x64, .bf16⟩
  | .local _ .vmem, ⟨5, _⟩ => ⟨S128x512, .bf16⟩
  | _, _ => ⟨S1x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S131072x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x131072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S131072x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Softmax.lean ====
/- The mathematics of a running softmax, over the extended reals and with no program in sight.

   For scores `s 0, s 1, …`, the running maximum of the first `n` of them is `runMax s n`, and for any
   coefficients `g` the running weighted sum is `runSum s g n = ∑ i < n, exp (s i - runMax s n) * g i`.
   The running denominator of a softmax is `runSum` at `g = 1`, its running numerator `runSum` at the
   weighted values. `runSum_add` is the whole point: extending the prefix by a block of `b` scores
   multiplies the old sum by `exp (old maximum - new maximum)` and adds the block's own terms. -/
module

public import Idealize.ShloMosaic.PureOps.Ideal

@[expose] public section

noncomputable section

namespace Cert.Softmax

open Idealize.ShloMosaic Finset

/-- The maximum of the first `n` scores (`-∞` of none). -/
def runMax (s : ℕ → EReal) (n : ℕ) : EReal := (range n).sup s

/-- The first `n` coefficients, each weighted by the exponential of its score less the maximum so far. -/
def runSum (s g : ℕ → EReal) (n : ℕ) : EReal := ∑ i ∈ range n, Ideal.exp (s i - runMax s n) * g i

/-- The exponential is nowhere negative. -/
theorem exp_nonneg (x : EReal) : 0 ≤ Ideal.exp x := by
  induction x using EReal.rec with
  | bot => simp
  | top => simp
  | coe r => rw [Ideal.exp_coe]; exact_mod_cast (Real.exp_pos r).le

/-- The exponential of anything but `+∞` is not `+∞`. -/
theorem exp_ne_top {x : EReal} (h : x ≠ ⊤) : Ideal.exp x ≠ ⊤ := by
  induction x using EReal.rec with
  | bot => simp
  | top => exact absurd rfl h
  | coe r => rw [Ideal.exp_coe]; exact EReal.coe_ne_top _

/-- A difference of a smaller from a larger extended real is not `+∞` (also where both are infinite). -/
theorem sub_ne_top {x y : EReal} (h : x ≤ y) : x - y ≠ ⊤ := by
  induction x using EReal.rec with
  | bot => simp
  | top => rw [top_le_iff.mp h]; simp [sub_eq_add_neg]
  | coe r =>
    induction y using EReal.rec with
    | bot => exact absurd h (by simp)
    | top => simp [sub_eq_add_neg]
    | coe q => exact EReal.coe_ne_top (r - q)

/-- Changing the maximum an exponential is taken against: from `m` to a larger `m'`. -/
theorem exp_sub_mul {x m m' : EReal} (h : x ≤ m) (h' : m ≤ m') :
    Ideal.exp (x - m) * Ideal.exp (m - m') = Ideal.exp (x - m') := by
  induction x using EReal.rec with
  | bot => simp [sub_eq_add_neg]
  | top =>
    obtain rfl := top_le_iff.mp h
    obtain rfl := top_le_iff.mp h'
    simp [sub_eq_add_neg]
  | coe r =>
    induction m using EReal.rec with
    | bot => exact absurd h (by simp)
    | top =>
      obtain rfl := top_le_iff.mp h'
      simp [sub_eq_add_neg]
    | coe q =>
      induction m' using EReal.rec with
      | bot => exact absurd h' (by simp)
      | top => simp [sub_eq_add_neg]
      | coe p =>
        rw [← EReal.coe_sub, ← EReal.coe_sub, ← EReal.coe_sub, Ideal.exp_coe, Ideal.exp_coe, Ideal.exp_coe, ← EReal.coe_mul,
          ← Real.exp_add]
        congr 2
        ring

/-- A finite factor that is not negative goes into a sum, whatever the summands are. -/
theorem sum_mul_of_nonneg {ι : Type*} (S : Finset ι) (f : ι → EReal) {a : EReal} (h0 : 0 ≤ a) (ht : a ≠ ⊤) :
    (∑ i ∈ S, f i) * a = ∑ i ∈ S, f i * a := by
  classical
  induction S using Finset.induction_on with
  | empty => simp
  | insert i S hi ih => rw [sum_insert hi, sum_insert hi, EReal.right_distrib_of_nonneg_of_ne_top h0 ht, ih]

/-- A score of the prefix is at most the prefix's maximum. -/
theorem le_runMax (s : ℕ → EReal) {n i : ℕ} (h : i < n) : s i ≤ runMax s n := le_sup (mem_range.mpr h)

/-- The maximum of a longer prefix is the larger of the old one and the block's. -/
theorem runMax_add (s : ℕ → EReal) (n b : ℕ) :
    runMax s (n + b) = max (runMax s n) ((range b).sup fun j => s (n + j)) := by
  unfold runMax
  rw [range_eq_Ico, ← Ico_union_Ico_eq_Ico (Nat.zero_le n) (Nat.le_add_right n b), sup_union, ← range_eq_Ico]
  refine congrArg (max _) ?_
  apply le_antisymm
  · refine Finset.sup_le fun i hi => ?_
    obtain ⟨h1, h2⟩ := mem_Ico.mp hi
    have : s (n + (i - n)) ≤ (range b).sup fun j => s (n + j) := le_sup (f := fun j => s (n + j)) (mem_range.mpr (by omega))
    rwa [Nat.add_sub_cancel' h1] at this
  · refine Finset.sup_le fun j hj => ?_
    exact le_sup (f := s) (mem_Ico.mpr ⟨by omega, by have := mem_range.mp hj; omega⟩)

/-- The maximum does not fall as the prefix grows. -/
theorem runMax_le_add (s : ℕ → EReal) (n b : ℕ) : runMax s n ≤ runMax s (n + b) := by
  rw [runMax_add]; exact le_max_left _ _

/-- THE RUNNING STEP: extending a prefix by a block rescales the old sum to the new maximum and adds the block's terms. -/
theorem runSum_add (s g : ℕ → EReal) (n b : ℕ) :
    runSum s g (n + b) = runSum s g n * Ideal.exp (runMax s n - runMax s (n + b))
      + ∑ j ∈ range b, Ideal.exp (s (n + j) - runMax s (n + b)) * g (n + j) := by
  have hm := runMax_le_add s n b
  unfold runSum
  rw [sum_range_add, sum_mul_of_nonneg _ _ (exp_nonneg _) (exp_ne_top (sub_ne_top hm))]
  refine congrArg (· + _) (sum_congr rfl fun i hi => ?_)
  rw [← exp_sub_mul (le_runMax s (mem_range.mp hi)) hm]
  ac_rfl

/-- Before any score the maximum is `-∞`. -/
theorem runMax_zero (s : ℕ → EReal) : runMax s 0 = ⊥ := by simp [runMax]

/-- Before any score every sum is `0`. -/
theorem runSum_zero (s g : ℕ → EReal) : runSum s g 0 = 0 := by simp [runSum]

/-- A finite factor that is not negative, times anything but `+∞`, is not `+∞`. -/
theorem mul_ne_top {e c : EReal} (h0 : 0 ≤ e) (ht : e ≠ ⊤) (hc : c ≠ ⊤) : e * c ≠ ⊤ := by
  lift e to ℝ using ⟨ht, fun h => by rw [h] at h0; simp at h0⟩
  induction c using EReal.rec with
  | bot =>
    rcases (EReal.coe_nonneg.mp h0).eq_or_lt with rfl | hp
    · simp
    · rw [EReal.coe_mul_bot_of_pos hp]; exact bot_ne_top
  | top => exact absurd rfl hc
  | coe r => rw [← EReal.coe_mul]; exact EReal.coe_ne_top _

/-- The exponential of a difference of ordered values, times a scale that is not `+∞`, is not `+∞`. -/
theorem weight_ne_top {x m c : EReal} (h : x ≤ m) (hc : c ≠ ⊤) : Ideal.exp (x - m) * c ≠ ⊤ :=
  mul_ne_top (exp_nonneg _) (exp_ne_top (sub_ne_top h)) hc

/-- Splitting a weight `w` into itself and two remainders, `w - w` and that less itself, adds nothing to its product
    with a code: a finite weight's remainders are `0`, and `-∞` leaves `-∞` each time. (`+∞` would leave `-∞`.) -/
theorem limbs_mul {w : EReal} (hw : w ≠ ⊤) (c : EReal) :
    (w - w - (w - w)) * c + (w - w) * c + w * c = w * c := by
  induction w using EReal.rec with
  | bot =>
    have e : (⊥ : EReal) - ⊥ = ⊥ := by simp [sub_eq_add_neg]
    rw [e, e]
    rcases lt_trichotomy c 0 with h | rfl | h
    · simp [EReal.bot_mul_of_neg h]
    · simp
    · simp [EReal.bot_mul_of_pos h]
  | top => exact absurd rfl hw
  | coe r => rw [← EReal.coe_sub, sub_self, EReal.coe_zero]; simp

/-- The maximum over a finite index type, folded from `-∞`, is the prefix maximum of the indexed scores. -/
theorem fold_max_eq_sup {n : ℕ} (f : Fin n → EReal) (s : ℕ → EReal) (h : ∀ k : Fin n, f k = s k.val) :
    (Finset.univ : Finset (Fin n)).fold max ⊥ f = (range n).sup s := by
  rw [show f = fun k : Fin n => s k.val from funext h]
  show (Finset.univ : Finset (Fin n)).sup (fun k : Fin n => s k.val) = _
  apply le_antisymm
  · exact Finset.sup_le fun k _ => le_sup (f := s) (mem_range.mpr k.isLt)
  · exact Finset.sup_le fun i hi => le_sup (f := fun k : Fin n => s k.val) (b := ⟨i, mem_range.mp hi⟩) (mem_univ _)

/-- A sum over a finite index type is the prefix sum of the indexed terms. -/
theorem sum_fin_eq_range {n : ℕ} (f : Fin n → EReal) (g : ℕ → EReal) (h : ∀ k : Fin n, f k = g k.val) :
    ∑ k : Fin n, f k = ∑ i ∈ range n, g i := by
  rw [← Fin.sum_univ_eq_sum_range]
  exact sum_congr rfl fun k _ => h k

end Cert.Softmax

end
-- ==== Proof.Attention.lean ====
/- What both programs compute, written once over the argument arrays: the score of a head against a token,
   and the attention output as a quotient of two softmax sums over all 131072 tokens. -/
module

public import proofs.«01_k».proof.Proof.Softmax
public import Idealize.ShloMosaic.Lib.Pointwise

@[expose] public section

set_option maxRecDepth 16384

noncomputable section

namespace Cert.Attention

open Idealize.ShloMosaic

/-- Token number `i` (taken modulo their number, so that every natural number names one). -/
def tok (i : ℕ) : Fin 131072 := ⟨i % 131072, Nat.mod_lt _ (by decide)⟩

/-- A token's own number names it. -/
theorem tok_val (k : Fin 131072) : tok k.val = k := Fin.ext (Nat.mod_eq_of_lt k.isLt)

variable (X : FVec Ideal ⟨3, ![1, 1, 65536]⟩ .bf16) (R : FVec Ideal ⟨4, ![1, 1, 128, 64]⟩ .bf16)
  (C : FVec Ideal ⟨3, ![1, 131072, 512]⟩ .fp8e4m3) (S : FVec Ideal ⟨2, ![1, 131072]⟩ .f32)
  (K : FVec Ideal ⟨3, ![1, 131072, 64]⟩ .bf16)

/-- The score of head `h` against token `i`: latent product times the token's scale, plus the rope product,
    times the softmax scale. -/
def score (h : Fin 128) (i : ℕ) : EReal :=
  ((∑ k : Fin 512, X (ix3 0 0 ⟨h.val * 512 + k.val, by omega⟩) * C (ix3 0 (tok i) k)) * S (ix2 0 (tok i))
    + ∑ k : Fin 64, R (ix4 0 0 h k) * K (ix3 0 (tok i) k)) * Ideal.ofBits .f32 0x3D93CD3A#32

/-- The value of token `i` in latent column `d`: its scale times its code. -/
def value (d : Fin 512) (i : ℕ) : EReal := S (ix2 0 (tok i)) * C (ix3 0 (tok i) d)

/-- The attention of head `h` in latent column `d`: the softmax-weighted mean of the values of all tokens. -/
def attention (h : Fin 128) (d : Fin 512) : EReal :=
  Ideal.div (Softmax.runSum (score X R C S K h) (value C S d) 131072)
    (Softmax.runSum (score X R C S K h) (fun _ => 1) 131072)

end Cert.Attention

end
-- ==== Proof.Payload.lean ====
/- The kernel's payloads read at one index, as scalar arithmetic over the extended reals: the scores of a
   block, its maximum, its exponentials, and one step of the three carried quantities. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Payload

open Cert.KernelIdeal Cert.KernelIdeal.Gen Idealize.ShloMosaic Idealize.ShloMosaic.TcCoe Idealize.SL.Sem

/-- The pattern of `-∞`. -/
theorem negInf : Ideal.ofBits .f32 0xFF800000#32 = ⊥ := by
  simp [Ideal.ofBits, Ideal.ieee]

variable (v3 : FVec Ideal S2048x512 .fp8e4m3) (v5 : FVec Ideal S1x1x2048 .f32) (v7 : FVec Ideal S128x512 .bf16)
  (v10 : FVec Ideal S128x64 .bf16) (v12 : FVec Ideal S64x2048 .bf16) (v20 : FVec Ideal S128x1 .f32)

/-- A block's score: head `h` against the block's token `j`. -/
def blockScore (h : Fin 128) (j : Fin 2048) : EReal :=
  ((∑ k : Fin 512, v7 (ix2 h k) * v3 (ix2 j k)) * v5 (ix3 0 0 j) + ∑ k : Fin 64, v10 (ix2 h k) * v12 (ix2 k j))
    * Ideal.ofBits .f32 0x3D93CD3A#32

/-- The score payload at an index. -/
theorem pay10_at (h : Fin 128) (j : Fin 2048) :
    k0_pay10 (F := Ideal) v3 v5 v7 v10 v12 (ix2 h j) = blockScore v3 v5 v7 v10 v12 h j := by
  pointwise [k0_pay10, k0_pay8, k0_pay9, blockScore]

/-- The new maximum at an index. -/
theorem pay11_at (h : Fin 128) :
    k0_pay11 (F := Ideal) v3 v5 v7 v10 v12 v20 (ix2 h 0)
      = max (v20 (ix2 h 0)) ((Finset.univ : Finset (Fin 2048)).fold max ⊥ fun j => blockScore v3 v5 v7 v10 v12 h j) := by
  pointwise [k0_pay11, pay10_at]
  rw [negInf]

/-- The rescaling factor at an index. -/
theorem pay12_at (h : Fin 128) :
    k0_pay12 (F := Ideal) v3 v5 v7 v10 v12 v20 (ix2 h 0)
      = Ideal.exp (v20 (ix2 h 0) - k0_pay11 (F := Ideal) v3 v5 v7 v10 v12 v20 (ix2 h 0)) := by
  pointwise [k0_pay12]

/-- The exponential of a score at an index. -/
theorem pay13_at (h : Fin 128) (j : Fin 2048) :
    k0_pay13 (F := Ideal) v3 v5 v7 v10 v12 v20 (ix2 h j)
      = Ideal.exp (blockScore v3 v5 v7 v10 v12 h j - k0_pay11 (F := Ideal) v3 v5 v7 v10 v12 v20 (ix2 h 0)) := by
  pointwise [k0_pay13, pay10_at]

/-- The new sum of exponentials at an index. -/
theorem pay14_at (v29 : FVec Ideal S128x1 .f32) (h : Fin 128) :
    k0_pay14 (F := Ideal) v3 v5 v7 v10 v12 v20 v29 (ix2 h 0)
      = v29 (ix2 h 0) * k0_pay12 (F := Ideal) v3 v5 v7 v10 v12 v20 (ix2 h 0)
        + ∑ j : Fin 2048, k0_pay13 (F := Ideal) v3 v5 v7 v10 v12 v20 (ix2 h j) := by
  pointwise [k0_pay14]

/-- The new weighted sum at an index, where no weight `p * sc` is `+∞`: the three-limb product is then the
    product with the weight itself. -/
theorem pay3_at (v25 : FVec Ideal S128x1 .f32) (v28 : FVec Ideal S128x2048 .f32) (v56 : FVec Ideal S128x512 .f32)
    (h : Fin 128) (d : Fin 512) (hw : ∀ j : Fin 2048, v28 (ix2 h j) * v5 (ix3 0 0 j) ≠ ⊤) :
    k0_pay3 (F := Ideal) (k0_pay8 v3) (k0_pay9 v5) v25 v28 v56 (ix2 h d)
      = v56 (ix2 h d) * v25 (ix2 h 0) + ∑ j : Fin 2048, v28 (ix2 h j) * v5 (ix3 0 0 j) * v3 (ix2 j d) := by
  pointwise [k0_pay3, k0_pay8, k0_pay9]
  have e0 : 256 + (h : ℕ) - 128 - 128 = h := by omega
  have n1 : ¬ 256 + (h : ℕ) < 128 := by omega
  have n2 : ¬ 256 + (h : ℕ) - 128 < 128 := by omega
  simp only [n1, n2, e0, ↓reduceDIte, Fin.eta]
  rw [← Finset.sum_add_distrib, ← Finset.sum_add_distrib]
  exact congrArg (_ + ·) (Finset.sum_congr rfl fun j _ => Softmax.limbs_mul (hw j) _)

/-- The quotient written out at an index. -/
theorem pay4_at (a : FVec Ideal S128x512 .f32) (l : FVec Ideal S128x1 .f32) (h : Fin 128) (d : Fin 512) :
    k0_pay4 (F := Ideal) a l (ix2 h d) = Ideal.div (a (ix2 h d)) (l (ix2 h 0)) := by
  pointwise [k0_pay4]

/-- The initial maximum is `-∞`. -/
theorem pay5_at (h : Fin 128) : k0_pay5 (F := Ideal) (ix2 h 0) = ⊥ := by
  pointwise [k0_pay5]
  exact negInf

/-- The initial sum of exponentials is `0`. -/
theorem pay6_at (h : Fin 128) : k0_pay6 (F := Ideal) (ix2 h 0) = 0 := by
  pointwise [k0_pay6]

/-- The initial weighted sum is `0`. -/
theorem pay7_at (h : Fin 128) (d : Fin 512) : k0_pay7 (F := Ideal) (ix2 h d) = 0 := by
  pointwise [k0_pay7]

end Cert.KernelIdeal.Payload

end
-- ==== Proof.Block.lean ====
/- What one grid point leaves in the three carried buffers (the running maximum, the running sum of
   exponentials, the running weighted sum) and what the last one writes: the frame's found pieces, read
   back as the kernel's own payloads over the point's input blocks and what the point before left. -/
module

public import proofs.«01_k».proof.Proof.Gen.KernelIdeal.Frame
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The number of grid points. -/
theorem lt64 (t : Fin cfg0.N) : t.val < 64 := lt_of_lt_of_eq t.isLt N_0

/-- What point `n` leaves in the buffer of the running maximum. -/
def mx (c : Dev nD) (n : ℕ) (hn : n < cfg0.N) : FVec Ideal S128x1 .f32 := (outsAt0 m c n hn).2.1
/-- What point `n` leaves in the buffer of the running sum of exponentials. -/
def den (c : Dev nD) (n : ℕ) (hn : n < cfg0.N) : FVec Ideal S128x1 .f32 := (outsAt0 m c n hn).2.2.1
/-- What point `n` leaves in the buffer of the running weighted sum. -/
def num (c : Dev nD) (n : ℕ) (hn : n < cfg0.N) : FVec Ideal S128x512 .f32 := (outsAt0 m c n hn).2.2.2

/-- Carried buffer 0, holding contents laid out as `x`, reads `x`. -/
theorem read0 (x : Vec Ideal S128x1 .f32) :
    View.read (Elt Ideal) (View.whole cc0_scratch0) ((Memref.isWhole_whole cc0_scratch0).unread x) = x :=
  (Memref.isWhole_whole cc0_scratch0).read_unread x

/-- Carried buffer 1, holding contents laid out as `x`, reads `x`. -/
theorem read1 (x : Vec Ideal S128x1 .f32) :
    View.read (Elt Ideal) (View.whole cc0_scratch1) ((Memref.isWhole_whole cc0_scratch1).unread x) = x :=
  (Memref.isWhole_whole cc0_scratch1).read_unread x

/-- Carried buffer 2, holding contents laid out as `x`, reads `x`. -/
theorem read2 (x : Vec Ideal S128x512 .f32) :
    View.read (Elt Ideal) (View.whole cc0_scratch2) ((Memref.isWhole_whole cc0_scratch2).unread x) = x :=
  (Memref.isWhole_whole cc0_scratch2).read_unread x

/-- The first point's maximum: the payload over the initial values. -/
theorem mx_first (c : Dev nD) (t : Fin cfg0.N) (h : t.val % 64 = 0) :
    mx m c t.val t.isLt = k0_pay11 (iblk m c 2 t) (iblk m c 3 t) (iblk m c 0 t) (iblk m c 1 t) (iblk m c 4 t) (k0_pay5 (F := Ideal)) := by
  unfold mx
  rw [outsAt0_A m c t h (by omega)]
  frame_out
  unfold k0_pay2
  rw [shapeCast_self]

/-- A later point's maximum: the payload over what the point before left. -/
theorem mx_next (c : Dev nD) (t : Fin cfg0.N) (h : ¬t.val % 64 = 0) :
    mx m c t.val t.isLt = k0_pay11 (iblk m c 2 t) (iblk m c 3 t) (iblk m c 0 t) (iblk m c 1 t) (iblk m c 4 t)
      (mx m c (t.val - 1) (Nat.lt_of_le_of_lt (Nat.sub_le _ _) t.isLt)) := by
  unfold mx
  by_cases h1 : t.val % 64 = 63
  · rw [outsAt0_C m c t h h1]
    frame_out
    unfold k0_pay2
    rw [shapeCast_self]
    rw [read0]
  · rw [outsAt0_B m c t h h1]
    frame_out
    unfold k0_pay2
    rw [shapeCast_self]
    rw [read0]

/-- The first point's sum of exponentials: the payload over the initial values. -/
theorem den_first (c : Dev nD) (t : Fin cfg0.N) (h : t.val % 64 = 0) :
    den m c t.val t.isLt = k0_pay14 (iblk m c 2 t) (iblk m c 3 t) (iblk m c 0 t) (iblk m c 1 t) (iblk m c 4 t) (k0_pay5 (F := Ideal)) (k0_pay6 (F := Ideal)) := by
  unfold den
  rw [outsAt0_A m c t h (by omega)]
  frame_out
  unfold k0_pay1
  rw [shapeCast_self]

/-- A later point's sum of exponentials: the payload over what the point before left. -/
theorem den_next (c : Dev nD) (t : Fin cfg0.N) (h : ¬t.val % 64 = 0) :
    den m c t.val t.isLt = k0_pay14 (iblk m c 2 t) (iblk m c 3 t) (iblk m c 0 t) (iblk m c 1 t) (iblk m c 4 t)
      (mx m c (t.val - 1) (Nat.lt_of_le_of_lt (Nat.sub_le _ _) t.isLt))
      (den m c (t.val - 1) (Nat.lt_of_le_of_lt (Nat.sub_le _ _) t.isLt)) := by
  unfold den mx
  by_cases h1 : t.val % 64 = 63
  · rw [outsAt0_C m c t h h1]
    frame_out
    unfold k0_pay1
    rw [shapeCast_self]
    rw [read0, read1]
  · rw [outsAt0_B m c t h h1]
    frame_out
    unfold k0_pay1
    rw [shapeCast_self]
    rw [read0, read1]

/-- The first point's weighted sum: the payload over the initial values. -/
theorem num_first (c : Dev nD) (t : Fin cfg0.N) (h : t.val % 64 = 0) :
    num m c t.val t.isLt = k0_pay3 (k0_pay8 (iblk m c 2 t)) (k0_pay9 (iblk m c 3 t))
      (k0_pay12 (iblk m c 2 t) (iblk m c 3 t) (iblk m c 0 t) (iblk m c 1 t) (iblk m c 4 t) (k0_pay5 (F := Ideal)))
      (k0_pay13 (iblk m c 2 t) (iblk m c 3 t) (iblk m c 0 t) (iblk m c 1 t) (iblk m c 4 t) (k0_pay5 (F := Ideal))) (k0_pay7 (F := Ideal)) := by
  unfold num
  rw [outsAt0_A m c t h (by omega)]
  frame_out

/-- A later point's weighted sum: the payload over what the point before left. -/
theorem num_next (c : Dev nD) (t : Fin cfg0.N) (h : ¬t.val % 64 = 0) :
    num m c t.val t.isLt = k0_pay3 (k0_pay8 (iblk m c 2 t)) (k0_pay9 (iblk m c 3 t))
      (k0_pay12 (iblk m c 2 t) (iblk m c 3 t) (iblk m c 0 t) (iblk m c 1 t) (iblk m c 4 t)
        (mx m c (t.val - 1) (Nat.lt_of_le_of_lt (Nat.sub_le _ _) t.isLt)))
      (k0_pay13 (iblk m c 2 t) (iblk m c 3 t) (iblk m c 0 t) (iblk m c 1 t) (iblk m c 4 t)
        (mx m c (t.val - 1) (Nat.lt_of_le_of_lt (Nat.sub_le _ _) t.isLt)))
      (num m c (t.val - 1) (Nat.lt_of_le_of_lt (Nat.sub_le _ _) t.isLt)) := by
  unfold num mx
  by_cases h1 : t.val % 64 = 63
  · rw [outsAt0_C m c t h h1]
    frame_out
    rw [read0, read2]
  · rw [outsAt0_B m c t h h1]
    frame_out
    rw [read0, read2]

/-- The block the last point writes out: its weighted sum divided by its sum of exponentials. -/
theorem out_last (c : Dev nD) (t : Fin cfg0.N) (h : t.val % 64 = 63) :
    ((outsAt0 m c t.val t.isLt).1 : FVec Ideal S128x512 .bf16) = k0_pay4 (F := Ideal) (num m c t.val t.isLt) (den m c t.val t.isLt) := by
  unfold num den
  rw [outsAt0_C m c t (by omega) h]
  frame_out

end Cert.KernelIdeal.Block

end
-- ==== Proof.KernelReads.lean ====
/- The blocks a grid point reads, as elements of the argument arrays: point `t` sees tokens `2048 t` to
   `2048 t + 2047`. -/
module

public import proofs.«01_k».proof.Proof.Attention
public import proofs.«01_k».proof.Proof.Payload
public import proofs.«01_k».proof.Proof.Block
public import Idealize.ShloMosaic.Lib.Claim

@[expose] public section

set_option maxRecDepth 16384

noncomputable section

namespace Cert.KernelIdeal.Reads

open Cert.KernelIdeal Cert.KernelIdeal.Gen Cert.Attention Idealize.ShloMosaic Idealize.ShloMosaic.TcCoe Idealize.SL.Sem
open Idealize.ShloMosaic.Pipeline (Dat)

variable (m : (ℓ : Loc nD τ sig) → Buf (Elt Ideal) ℓ)

/-- Which block each window stages at point `t`. -/
theorem idx : ∀ t : Fin cfg0.N, win0_0.index t = ![0, 0] ∧ win0_1.index t = ![0, 0] ∧ win0_2.index t = ![t.val, 0]
    ∧ win0_3.index t = ![t.val, 0, 0] ∧ win0_4.index t = ![0, t.val] :=
  (by decide +kernel : ∀ t : Fin grid0.N, _)

/-- The queries. -/
abbrev X (c : Dev nD) : FVec Ideal S1x1x65536 .bf16 := m ((c : Thread nD τ).loc main_arg0)
/-- The rope queries. -/
abbrev R (c : Dev nD) : FVec Ideal S1x1x128x64 .bf16 := m ((c : Thread nD τ).loc main_arg1)
/-- The latent codes. -/
abbrev C (c : Dev nD) : FVec Ideal S1x131072x512 .fp8e4m3 := m ((c : Thread nD τ).loc main_arg2)
/-- The scales of the latent codes. -/
abbrev S (c : Dev nD) : FVec Ideal S1x131072 .f32 := m ((c : Thread nD τ).loc main_arg3)
/-- The rope keys. -/
abbrev K (c : Dev nD) : FVec Ideal S1x131072x64 .bf16 := m ((c : Thread nD τ).loc main_arg4)

/-- Token `j` of point `t`'s block, in the whole cache. -/
theorem tok_block (t : Fin cfg0.N) (j : Fin 2048) : (tok (2048 * t.val + j.val)).val = 2048 * t.val + j.val := by
  have := Block.lt64 t
  exact Nat.mod_eq_of_lt (by omega)

/-- Window 0 is the queries, one row of 512 per head. -/
theorem read0 (c : Dev nD) (t : Fin cfg0.N) (h : Fin 128) (k : Fin 512) :
    (show FVec Ideal S128x512 .bf16 from iblk m c 0 t) (ix2 h k) = X m c (ix3 0 0 ⟨h.val * 512 + k.val, by omega⟩) := by
  blk_point [iblk, V, idx t]

/-- Window 1 is the rope queries. -/
theorem read1 (c : Dev nD) (t : Fin cfg0.N) (h : Fin 128) (k : Fin 64) :
    (show FVec Ideal S128x64 .bf16 from iblk m c 1 t) (ix2 h k) = R m c (ix4 0 0 h k) := by
  blk_point [iblk, V, idx t]

/-- Window 2 is the block's latent codes. -/
theorem read2 (c : Dev nD) (t : Fin cfg0.N) (j : Fin 2048) (k : Fin 512) :
    (show FVec Ideal S2048x512 .fp8e4m3 from iblk m c 2 t) (ix2 j k) = C m c (ix3 0 (tok (2048 * t.val + j.val)) k) := by
  have e := tok_block t j
  blk_point [iblk, V, idx t]

/-- Window 3 is the block's scales. -/
theorem read3 (c : Dev nD) (t : Fin cfg0.N) (j : Fin 2048) :
    (show FVec Ideal S1x1x2048 .f32 from iblk m c 3 t) (ix3 0 0 j) = S m c (ix2 0 (tok (2048 * t.val + j.val))) := by
  have e := tok_block t j
  blk_point [iblk, V, idx t]

/-- Window 4 is the block's rope keys, one column per token. -/
theorem read4 (c : Dev nD) (t : Fin cfg0.N) (k : Fin 64) (j : Fin 2048) :
    (show FVec Ideal S64x2048 .bf16 from iblk m c 4 t) (ix2 k j) = K m c (ix3 0 (tok (2048 * t.val + j.val)) k) := by
  have e := tok_block t j
  blk_point [iblk, V, idx t]

end Cert.KernelIdeal.Reads

end
-- ==== Proof.KernelValue.lean ====
/- What the kernel's result array holds: at every head and latent column, the attention over all tokens. -/
module

public import proofs.«01_k».proof.Proof.KernelReads
public import proofs.«01_k».proof.Proof.Gen.KernelIdeal.Value

@[expose] public section

set_option maxRecDepth 16384

noncomputable section

namespace Cert.KernelIdeal.Result

open Cert.KernelIdeal Cert.KernelIdeal.Gen Cert.KernelIdeal.Reads Cert.Attention Cert.Softmax
open Idealize.ShloMosaic Idealize.ShloMosaic.TcCoe Idealize.SL.Sem
open Idealize.ShloMosaic.Pipeline (Dat)

variable (m : (ℓ : Loc nD τ sig) → Buf (Elt Ideal) ℓ)

/-- The scores of head `h` over the argument arrays. -/
abbrev sc (c : Dev nD) (h : Fin 128) : ℕ → EReal := score (X m c) (R m c) (C m c) (S m c) (K m c) h
/-- The values in column `d` over the argument arrays. -/
abbrev vl (c : Dev nD) (d : Fin 512) : ℕ → EReal := value (C m c) (S m c) d

/-- Point `t`'s block scores are the scores of tokens `2048 t + j`. -/
theorem block_score (c : Dev nD) (t : Fin cfg0.N) (h : Fin 128) (j : Fin 2048) :
    Payload.blockScore (iblk m c 2 t) (iblk m c 3 t) (iblk m c 0 t) (iblk m c 1 t) (iblk m c 4 t) h j
      = sc m c h (2048 * t.val + j.val) := by
  unfold Payload.blockScore sc score
  refine congrArg (· * _) (congrArg₂ (· + ·) (congrArg₂ (· * ·) (Finset.sum_congr rfl fun k _ => ?_) (read3 m c t j))
    (Finset.sum_congr rfl fun k _ => ?_))
  · exact congrArg₂ (· * ·) (read0 m c t h k) (read2 m c t j k)
  · exact congrArg₂ (· * ·) (read1 m c t h k) (read4 m c t k j)

/-- Point `t` takes a running maximum over the first `2048 t` tokens to one over the first `2048 t + 2048`. -/
theorem max_step (c : Dev nD) (t : Fin cfg0.N) (h : Fin 128) (x : FVec Ideal S128x1 .f32)
    (hx : x (ix2 h 0) = runMax (sc m c h) (2048 * t.val)) :
    k0_pay11 (F := Ideal) (iblk m c 2 t) (iblk m c 3 t) (iblk m c 0 t) (iblk m c 1 t) (iblk m c 4 t) x (ix2 h 0)
      = runMax (sc m c h) (2048 * t.val + 2048) := by
  rw [Payload.pay11_at, hx, runMax_add]
  exact congrArg (max _) (fold_max_eq_sup _ _ fun j => block_score m c t h j)

/-- The exponential of a block's score at point `t`, against the new running maximum. -/
theorem exp_block (c : Dev nD) (t : Fin cfg0.N) (h : Fin 128) (j : Fin 2048) (x : FVec Ideal S128x1 .f32)
    (hx : x (ix2 h 0) = runMax (sc m c h) (2048 * t.val)) :
    k0_pay13 (F := Ideal) (iblk m c 2 t) (iblk m c 3 t) (iblk m c 0 t) (iblk m c 1 t) (iblk m c 4 t) x (ix2 h j)
      = Ideal.exp (sc m c h (2048 * t.val + j.val) - runMax (sc m c h) (2048 * t.val + 2048)) := by
  rw [Payload.pay13_at, max_step m c t h x hx, block_score]

/-- The rescaling factor at point `t`. -/
theorem scale_block (c : Dev nD) (t : Fin cfg0.N) (h : Fin 128) (x : FVec Ideal S128x1 .f32)
    (hx : x (ix2 h 0) = runMax (sc m c h) (2048 * t.val)) :
    k0_pay12 (F := Ideal) (iblk m c 2 t) (iblk m c 3 t) (iblk m c 0 t) (iblk m c 1 t) (iblk m c 4 t) x (ix2 h 0)
      = Ideal.exp (runMax (sc m c h) (2048 * t.val) - runMax (sc m c h) (2048 * t.val + 2048)) := by
  rw [Payload.pay12_at, max_step m c t h x hx, hx]

/-- Point `t` takes the running sum of exponentials over the first `2048 t` tokens to the first `2048 t + 2048`. -/
theorem den_step (c : Dev nD) (t : Fin cfg0.N) (h : Fin 128) (x l : FVec Ideal S128x1 .f32)
    (hx : x (ix2 h 0) = runMax (sc m c h) (2048 * t.val))
    (hl : l (ix2 h 0) = runSum (sc m c h) (fun _ => 1) (2048 * t.val)) :
    k0_pay14 (F := Ideal) (iblk m c 2 t) (iblk m c 3 t) (iblk m c 0 t) (iblk m c 1 t) (iblk m c 4 t) x l (ix2 h 0)
      = runSum (sc m c h) (fun _ => 1) (2048 * t.val + 2048) := by
  rw [Payload.pay14_at, scale_block m c t h x hx, hl, runSum_add]
  refine congrArg (_ + ·) (sum_fin_eq_range _ _ fun j => ?_)
  rw [exp_block m c t h j x hx, mul_one]

/-- Point `t` takes the running weighted sum over the first `2048 t` tokens to the first `2048 t + 2048`,
    no scale being `+∞`. -/
theorem num_step (c : Dev nD) (hs : ∀ i, S m c i ≠ ⊤) (t : Fin cfg0.N) (h : Fin 128) (d : Fin 512)
    (x : FVec Ideal S128x1 .f32) (a : FVec Ideal S128x512 .f32)
    (hx : x (ix2 h 0) = runMax (sc m c h) (2048 * t.val))
    (ha : a (ix2 h d) = runSum (sc m c h) (vl m c d) (2048 * t.val)) :
    k0_pay3 (F := Ideal) (k0_pay8 (iblk m c 2 t)) (k0_pay9 (iblk m c 3 t))
        (k0_pay12 (iblk m c 2 t) (iblk m c 3 t) (iblk m c 0 t) (iblk m c 1 t) (iblk m c 4 t) x)
        (k0_pay13 (iblk m c 2 t) (iblk m c 3 t) (iblk m c 0 t) (iblk m c 1 t) (iblk m c 4 t) x) a (ix2 h d)
      = runSum (sc m c h) (vl m c d) (2048 * t.val + 2048) := by
  rw [Payload.pay3_at _ _ _ _ _ h d fun j => ?_]
  · rw [scale_block m c t h x hx, ha, runSum_add]
    refine congrArg (_ + ·) (sum_fin_eq_range _ _ fun j => ?_)
    rw [exp_block m c t h j x hx]
    exact (congrArg₂ (fun p q => _ * p * q) (read3 m c t j) (read2 m c t j d)).trans (mul_assoc _ _ _)
  · rw [exp_block m c t h j x hx, show (iblk m c 3 t : FVec Ideal S1x1x2048 .f32) (ix3 0 0 j) = _ from read3 m c t j]
    exact weight_ne_top (le_runMax _ (by omega)) (hs _)

/-- What the three carried buffers hold after point `n`: the running quantities over the first `2048 (n + 1)` tokens. -/
theorem carried (c : Dev nD) (hs : ∀ i, S m c i ≠ ⊤) (h : Fin 128) :
    ∀ (n : ℕ) (hn : n < cfg0.N),
      Block.mx m c n hn (ix2 h 0) = runMax (sc m c h) (2048 * n + 2048)
      ∧ Block.den m c n hn (ix2 h 0) = runSum (sc m c h) (fun _ => 1) (2048 * n + 2048)
      ∧ ∀ d : Fin 512, Block.num m c n hn (ix2 h d) = runSum (sc m c h) (vl m c d) (2048 * n + 2048)
  | 0, hn => by
    have hx : k0_pay5 (F := Ideal) (ix2 h 0) = runMax (sc m c h) (2048 * 0) := (Payload.pay5_at h).trans (runMax_zero _).symm
    refine ⟨?_, ?_, fun d => ?_⟩
    · rw [Block.mx_first m c ⟨0, hn⟩ rfl]
      exact max_step m c ⟨0, hn⟩ h _ hx
    · rw [Block.den_first m c ⟨0, hn⟩ rfl]
      exact den_step m c ⟨0, hn⟩ h _ _ hx ((Payload.pay6_at h).trans (runSum_zero _ _).symm)
    · rw [Block.num_first m c ⟨0, hn⟩ rfl]
      exact num_step m c hs ⟨0, hn⟩ h d _ _ hx ((Payload.pay7_at h d).trans (runSum_zero _ _).symm)
  | n + 1, hn => by
    obtain ⟨i1, i2, i3⟩ := carried c hs h n (by omega)
    have h64 := Block.lt64 ⟨n + 1, hn⟩
    have hz : ¬ (⟨n + 1, hn⟩ : Fin cfg0.N).val % 64 = 0 := by dsimp only at h64 ⊢; omega
    refine ⟨?_, ?_, fun d => ?_⟩
    · rw [Block.mx_next m c ⟨n + 1, hn⟩ hz]
      exact max_step m c ⟨n + 1, hn⟩ h _ i1
    · rw [Block.den_next m c ⟨n + 1, hn⟩ hz]
      exact den_step m c ⟨n + 1, hn⟩ h _ _ i1 i2
    · rw [Block.num_next m c ⟨n + 1, hn⟩ hz]
      exact num_step m c hs ⟨n + 1, hn⟩ h d _ _ i1 (i3 d)

/-- The block the last point writes out, at an index: the attention. -/
theorem last_at (c : Dev nD) (hs : ∀ i, S m c i ≠ ⊤) (t : Fin cfg0.N) (ht : t.val = 63) (h : Fin 128) (d : Fin 512) :
    (show FVec Ideal S128x512 .bf16 from (outsAt0 m c t.val t.isLt).1) (ix2 h d)
      = attention (X m c) (R m c) (C m c) (S m c) (K m c) h d := by
  obtain ⟨-, i2, i3⟩ := carried m c hs h t.val t.isLt
  have e : 2048 * t.val + 2048 = 131072 := by omega
  rw [Block.out_last m c t (by omega)]
  refine (Payload.pay4_at _ _ h d).trans ?_
  rw [i2, i3 d, e]
  rfl

/-- THE KERNEL'S RESULT ARRAY: the attention of every head in every latent column. -/
theorem final (c : Dev nD) (hs : ∀ i, S m c i ≠ ⊤) :
    (dats m 0 c).arrAt 5 cfg0.N
      = fun i : S128x512.Idx => attention (X m c) (R m c) (C m c) (S m c) (K m c) (i 0) (i 1) := by
  have idx5 : ∀ t : Fin cfg0.N, win0_5.index t = ![0, 0] := (by decide +kernel : ∀ t : Fin grid0.N, _)
  refine (dats m 0 c).arrAt_eq_of_covers 5 _ (by decide +kernel) fun t hf y => ?_
  have ht : t.val = 63 := by have := (flush0_5 t).mp hf; have := Block.lt64 t; omega
  blk_simp [idx5 t]
  rw [after0_5]
  have e : (show S128x512.Idx from y) = ix2 ((win0_5.blk t).view.emb y 0) ((win0_5.blk t).view.emb y 1) := by
    blk_ext [idx5 t]
  exact (congrArg (show FVec Ideal S128x512 .bf16 from (outsAt0 m c t.val t.isLt).1) e).trans (last_at m c hs t ht _ _)

end Cert.KernelIdeal.Result

end
-- ==== Proof.RefValue.lean ====
/- What the reference's result array holds: at every head and latent column, the attention over all tokens. -/
module

public import proofs.«01_k».proof.Proof.Attention
public import proofs.«01_k».proof.Proof.Gen.ReferenceIdeal.Value
public import Idealize.ShloMosaic.Lib.Pipeline.ValueKit
public import Idealize.ShloMosaic.Lib.Claim

@[expose] public section

set_option maxRecDepth 16384

noncomputable section

namespace Cert.ReferenceIdeal.Result

open Cert.ReferenceIdeal Cert.ReferenceIdeal.Gen Cert.Attention Cert.Softmax
open Idealize.ShloMosaic Idealize.ShloMosaic.TcCoe Idealize.SL.Sem
open Idealize.ShloMosaic.Pipeline (Dat)

/-- The pattern of `-∞`. -/
theorem negInf : Ideal.ofBits .f32 0xFF800000#32 = ⊥ := by
  simp [Ideal.ofBits, Ideal.ieee]

variable (v0 : FVec Ideal S131072x512 .fp8e4m3) (v2 : FVec Ideal S1x131072 .f32) (v3 : FVec Ideal S128x512 .bf16)
  (v7 : FVec Ideal S128x64 .bf16) (v9 : FVec Ideal S131072x64 .bf16)

/-- The score of head `h` against token `j`, over what the body reads. -/
def bodyScore (h : Fin 128) (j : Fin 131072) : EReal :=
  ((∑ k : Fin 512, v3 (ix2 h k) * v0 (ix2 j k)) * v2 (ix2 0 j) + ∑ k : Fin 64, v7 (ix2 h k) * v9 (ix2 j k))
    * Ideal.ofBits .f32 0x3D93CD3A#32

/-- The maximum of head `h`'s scores, over what the body reads. -/
def bodyMax (h : Fin 128) : EReal :=
  (Finset.univ : Finset (Fin 131072)).fold max ⊥ fun j => bodyScore v0 v2 v3 v7 v9 h j

/-- The reference's payload at an index: a softmax over all tokens, in one piece. -/
theorem pay1_at (h : Fin 128) (d : Fin 512) :
    k0_pay1 (F := Ideal) v0 v2 v3 v7 v9 (ix2 h d)
      = Ideal.div
          (∑ j : Fin 131072, Ideal.exp (bodyScore v0 v2 v3 v7 v9 h j - bodyMax v0 v2 v3 v7 v9 h) * v2 (ix2 0 j) * v0 (ix2 j d))
          (∑ j : Fin 131072, Ideal.exp (bodyScore v0 v2 v3 v7 v9 h j - bodyMax v0 v2 v3 v7 v9 h)) := by
  pointwise [k0_pay1, bodyMax, bodyScore]
  rw [negInf]

variable (m : (ℓ : Loc nD τ sig) → Buf (Elt Ideal) ℓ)

/-- Every window stages its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The queries. -/
abbrev X (c : Dev nD) : FVec Ideal S1x1x65536 .bf16 := m ((c : Thread nD τ).loc main_arg0)
/-- The rope queries. -/
abbrev R (c : Dev nD) : FVec Ideal S1x1x128x64 .bf16 := m ((c : Thread nD τ).loc main_arg1)
/-- The latent codes. -/
abbrev C (c : Dev nD) : FVec Ideal S1x131072x512 .fp8e4m3 := m ((c : Thread nD τ).loc main_arg2)
/-- The scales of the latent codes. -/
abbrev S (c : Dev nD) : FVec Ideal S1x131072 .f32 := m ((c : Thread nD τ).loc main_arg3)
/-- The rope keys. -/
abbrev K (c : Dev nD) : FVec Ideal S1x131072x64 .bf16 := m ((c : Thread nD τ).loc main_arg4)

/-- Window 0 is the queries, one row of 512 per head. -/
theorem read0 (c : Dev nD) (t : Fin cfg0.N) (h : Fin 128) (k : Fin 512) :
    (show FVec Ideal S128x512 .bf16 from iblk m c 0 t) (ix2 h k) = X m c (ix3 0 0 ⟨h.val * 512 + k.val, by omega⟩) := by
  blk_point [iblk, V, idx t]

/-- Window 1 is the rope queries. -/
theorem read1 (c : Dev nD) (t : Fin cfg0.N) (h : Fin 128) (k : Fin 64) :
    (show FVec Ideal S128x64 .bf16 from iblk m c 1 t) (ix2 h k) = R m c (ix4 0 0 h k) := by
  blk_point [iblk, V, idx t]

/-- Window 2 is the latent codes. -/
theorem read2 (c : Dev nD) (t : Fin cfg0.N) (j : Fin 131072) (k : Fin 512) :
    (show FVec Ideal S131072x512 .fp8e4m3 from iblk m c 2 t) (ix2 j k) = C m c (ix3 0 j k) := by
  blk_point [iblk, V, idx t]

/-- Window 3 is the scales. -/
theorem read3 (c : Dev nD) (t : Fin cfg0.N) (j : Fin 131072) :
    (show FVec Ideal S1x131072 .f32 from iblk m c 3 t) (ix2 0 j) = S m c (ix2 0 j) := by
  blk_point [iblk, V, idx t]

/-- Window 4 is the rope keys. -/
theorem read4 (c : Dev nD) (t : Fin cfg0.N) (j : Fin 131072) (k : Fin 64) :
    (show FVec Ideal S131072x64 .bf16 from iblk m c 4 t) (ix2 j k) = K m c (ix3 0 j k) := by
  blk_point [iblk, V, idx t]

/-- The body's scores are the scores over the argument arrays. -/
theorem body_score (c : Dev nD) (t : Fin cfg0.N) (h : Fin 128) (j : Fin 131072) :
    bodyScore (iblk m c 2 t) (iblk m c 3 t) (iblk m c 0 t) (iblk m c 1 t) (iblk m c 4 t) h j
      = score (X m c) (R m c) (C m c) (S m c) (K m c) h j.val := by
  unfold bodyScore score
  rw [tok_val]
  refine congrArg (· * _) (congrArg₂ (· + ·) (congrArg₂ (· * ·) (Finset.sum_congr rfl fun k _ => ?_) (read3 m c t j))
    (Finset.sum_congr rfl fun k _ => ?_))
  · exact congrArg₂ (· * ·) (read0 m c t h k) (read2 m c t j k)
  · exact congrArg₂ (· * ·) (read1 m c t h k) (read4 m c t j k)

/-- The body's maximum is the maximum over all tokens. -/
theorem body_max (c : Dev nD) (t : Fin cfg0.N) (h : Fin 128) :
    bodyMax (iblk m c 2 t) (iblk m c 3 t) (iblk m c 0 t) (iblk m c 1 t) (iblk m c 4 t) h
      = runMax (score (X m c) (R m c) (C m c) (S m c) (K m c) h) 131072 :=
  fold_max_eq_sup _ _ fun j => body_score m c t h j

/-- What the body stores, at an index: the attention. -/
theorem stored_at (c : Dev nD) (t : Fin cfg0.N) (h : Fin 128) (d : Fin 512) :
    k0_pay1 (F := Ideal) (iblk m c 2 t) (iblk m c 3 t) (iblk m c 0 t) (iblk m c 1 t) (iblk m c 4 t) (ix2 h d)
      = attention (X m c) (R m c) (C m c) (S m c) (K m c) h d := by
  rw [pay1_at]
  refine congrArg₂ Ideal.div (sum_fin_eq_range _ _ fun j => ?_) (sum_fin_eq_range _ _ fun j => ?_)
  · rw [body_score, body_max]
    unfold value
    rw [tok_val]
    exact (congrArg₂ (fun p q => _ * p * q) (read3 m c t j) (read2 m c t j d)).trans (mul_assoc _ _ _)
  · rw [body_score, body_max, mul_one]

/-- THE REFERENCE'S RESULT ARRAY: the attention of every head in every latent column. -/
theorem final (c : Dev nD) :
    (dats m 0 c).arrAt 5 cfg0.N
      = fun i : S128x512.Idx => attention (X m c) (R m c) (C m c) (S m c) (K m c) (i 0) (i 1) := by
  refine (dats m 0 c).arrAt_eq_of_covers 5 _ (by decide +kernel) fun t hf y => ?_
  blk_simp [idx t]
  rw [after0_5]
  frame_out
  have e : (show S128x512.Idx from y) = ix2 ((win0_5.blk t).view.emb y 0) ((win0_5.blk t).view.emb y 1) := by
    blk_ext [idx t]
  exact (congrArg (k0_pay1 (F := Ideal) (iblk m c 2 t) (iblk m c 3 t) (iblk m c 0 t) (iblk m c 1 t) (iblk m c 4 t)) e).trans
    (stored_at m c t _ _)

end Cert.ReferenceIdeal.Result

end
-- ==== Proof.Precondition.lean ====
/- What the precondition says: no scale of the latent codes is `+∞`. -/
module

public import proofs.«01_k».proof.Pre_scales_below_infinity
public import proofs.«01_k».proof.Proof.Gen.Pre_scales_below_infinity
public import Idealize.ShloMosaic.Lib.Pointwise
public import Idealize.ShloMosaic.Lib.Affine
public import Idealize.ShloMosaic.PureOps.Ideal

@[expose] public section

set_option maxRecDepth 16384

noncomputable section

namespace Cert.Pre_scales_below_infinity.Read

open Cert.Pre_scales_below_infinity Idealize.ShloMosaic

/-- A conjunction of bits that is true has every one of them true. -/
theorem of_fold_andi {ι : Type*} (T : Finset ι) (f : ι → BitVec 1) (h : T.fold IntOp.andi 1#1 f = 1#1) : ∀ k ∈ T, f k = 1#1 := by
  classical
  induction T using Finset.induction_on with
  | empty => intro k hk; simp at hk
  | insert a T ha ih =>
    rw [Finset.fold_insert ha, IntOp.andi_eq_one] at h
    intro k hk
    rcases Finset.mem_insert.mp hk with rfl | hk
    · exact h.1
    · exact ih h.2 k hk

/-- An extended real that compares below `+∞` is not `+∞`. -/
theorem ne_top_of_lt {x : EReal} (h : BitVec.ofBool (decide (x < Ideal.ofBits .f32 0x7F800000#32)) = 1#1) : x ≠ ⊤ := by
  have e : Ideal.ofBits .f32 0x7F800000#32 = ⊤ := by simp [Ideal.ofBits, Ideal.ieee]
  rw [e] at h
  rintro rfl
  simp at h

variable [Facts]

/-- Where the precondition holds, no scale is `+∞`. -/
theorem scales_ne_top (x : FVec Ideal S1x1x65536 .bf16) (r : FVec Ideal S1x1x128x64 .bf16) (c : FVec Ideal S1x131072x512 .fp8e4m3)
    (s : FVec Ideal S1x131072 .f32) (k : FVec Ideal S1x131072x64 .bf16)
    (h : fn (F := Ideal) x r c s k = fun _ => 1#1) (i : S1x131072.Idx) : s i ≠ ⊤ := by
  have h0 := congrFun h (fun a => a.elim0)
  pointwise [fn] at h0
  have h1 := of_fold_andi _ _ h0 (i 0, i 1) (Finset.mem_univ _)
  rw [eq_ix2 i]
  exact ne_top_of_lt h1

end Cert.Pre_scales_below_infinity.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_below_infinity
public import proofs.«01_k».proof.Proof.Gen.KernelIdeal.Value
public import proofs.«01_k».proof.Proof.Gen.ReferenceIdeal.Value
public import proofs.«01_k».proof.Proof.KernelValue
public import proofs.«01_k».proof.Proof.RefValue
public import proofs.«01_k».proof.Proof.Precondition
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- THE VALUE CLAIM: where no scale is `+∞`, kernel and reference end with the same result array, exactly. -/
theorem algebraic :
    algebraic_KernelIdeal_ReferenceIdeal_pre_scales_below_infinity (hKernelIdeal := Cert.KernelIdeal.Gen.facts)
      (hReferenceIdeal := Cert.ReferenceIdeal.Gen.facts) (hPre_scales_below_infinity := Cert.Pre_scales_below_infinity.Gen.facts) := by
  intro m g m' g' hpre hagree
  have hs := fun c => Cert.Pre_scales_below_infinity.Read.scales_ne_top _ _ _ _ _ (hpre c)
  refine ⟨fun c => (Cert.KernelIdeal.Gen.dats m 0 c).arrAt 5 Cert.KernelIdeal.cfg0.N, Cert.KernelIdeal.Value.run_blocks m g, ?_⟩
  refine (θ_run _ _ _).mono (fun r h c => ⟨(h c).1.trans ?_, (h c).2⟩) (Cert.ReferenceIdeal.Value.run_blocks m' g')
  obtain ⟨e0, e1, e2, e3, e4⟩ := hagree c
  show _ = (Cert.KernelIdeal.Gen.dats m 0 c).arrAt 5 Cert.KernelIdeal.cfg0.N
  rw [Cert.KernelIdeal.Result.final m c (hs c), Cert.ReferenceIdeal.Result.final m' c]
  unfold Cert.ReferenceIdeal.Result.X Cert.ReferenceIdeal.Result.R Cert.ReferenceIdeal.Result.C Cert.ReferenceIdeal.Result.S
    Cert.ReferenceIdeal.Result.K
  rw [e0, e1, e2, e3, e4]

/-- Everything the certificate claims. -/
theorem claim : Cert.Claim := ⟨Cert.Kernel.Gen.facts, Cert.KernelIdeal.Gen.facts, Cert.ReferenceIdeal.Gen.facts, Cert.Pre_scales_below_infinity.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  algebraic⟩

end Cert.Proof

end
